-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S8192x12416 : Shape := ⟨2, ![8192, 12416]⟩
abbrev S12416x6912 : Shape := ⟨2, ![12416, 6912]⟩
abbrev S388x6912 : Shape := ⟨2, ![388, 6912]⟩
abbrev S_ : Shape := ⟨0, ![]⟩

class Facts : Prop where
  natLt_8_32 : 8 < 32
  bcast_S_S388x6912 : S_.BroadcastsInDim S388x6912 (![] : Fin 0 → Fin S388x6912.rank)
  reducesTo_S388x6912_S_d0_1 : S388x6912.ReducesTo [0, 1] S_
  h_S_ : 0 < S_.numel

variable [Facts]

def fn {F : FTy → Type} [FloatOps F] (main_arg0 : FVec F S8192x12416 .bf16) (main_arg1 : FVec F S12416x6912 .fp8e4m3) (main_arg2 : IVec S388x6912 8) : IVec S_ 1 :=
  let main_v0 : IVec S388x6912 32 := (extui 32 · natLt_8_32) main_arg2
  let main_c : IVec S_ 32 := constantI S_ 32 1#32
  let main_v1 : IVec S388x6912 32 := broadcastInDim S388x6912 ![] bcast_S_S388x6912 main_c
  let main_v2 : IVec S388x6912 1 := cmpi .sge main_v0 main_v1
  let main_c_0 : IVec S_ 32 := constantI S_ 32 254#32
  let main_v3 : IVec S388x6912 32 := broadcastInDim S388x6912 ![] bcast_S_S388x6912 main_c_0
  let main_v4 : IVec S388x6912 1 := cmpi .sle main_v0 main_v3
  let main_v5 : IVec S388x6912 1 := andi main_v2 main_v4
  let main_c_1 : IVec S_ 1 := constantI S_ 1 1#1
  let main_v6 : IVec S_ 1 := (fun x v => Host.reduce IntOp.andi x v reducesTo_S388x6912_S_d0_1 h_S_) main_v5 main_c_1
  main_v6
-- ==== Kernel.lean ====
abbrev S8192x12416 : Shape := ⟨2, ![8192, 12416]⟩
abbrev S12416x6912 : Shape := ⟨2, ![12416, 6912]⟩
abbrev S388x6912 : Shape := ⟨2, ![388, 6912]⟩
abbrev S8192x6912 : Shape := ⟨2, ![8192, 6912]⟩
abbrev S512x12416 : Shape := ⟨2, ![512, 12416]⟩
abbrev S12416x768 : Shape := ⟨2, ![12416, 768]⟩
abbrev S388x768 : Shape := ⟨2, ![388, 768]⟩
abbrev S512x768 : Shape := ⟨2, ![512, 768]⟩
abbrev S32x768 : Shape := ⟨2, ![32, 768]⟩
abbrev S32x1x768 : Shape := ⟨3, ![32, 1, 768]⟩
abbrev S32x32x768 : Shape := ⟨3, ![32, 32, 768]⟩
abbrev S1024x768 : Shape := ⟨2, ![1024, 768]⟩
abbrev S512x1024 : Shape := ⟨2, ![512, 1024]⟩
abbrev S4x768 : Shape := ⟨2, ![4, 768]⟩
abbrev S4x1x768 : Shape := ⟨3, ![4, 1, 768]⟩
abbrev S4x32x768 : Shape := ⟨3, ![4, 32, 768]⟩
abbrev S128x768 : Shape := ⟨2, ![128, 768]⟩
abbrev S512x128 : Shape := ⟨2, ![512, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x12416, .bf16⟩
  | .hbm, ⟨1, _⟩ => ⟨S12416x6912, .fp8e4m3⟩
  | .hbm, ⟨2, _⟩ => ⟨S388x6912, .i8⟩
  | .hbm, ⟨3, _⟩ => ⟨S8192x6912, .bf16⟩
  | .local _ .vmem, ⟨0, _⟩ => ⟨S512x12416, .bf16⟩
  | .local _ .vmem, ⟨1, _⟩ => ⟨S512x12416, .bf16⟩
  | .local _ .vmem, ⟨2, _⟩ => ⟨S12416x768, .fp8e4m3⟩
  | .local _ .vmem, ⟨3, _⟩ => ⟨S12416x768, .fp8e4m3⟩
  | .local _ .vmem, ⟨4, _⟩ => ⟨S388x768, .i8⟩
  | .local _ .vmem, ⟨5, _⟩ => ⟨S388x768, .i8⟩
  | .local _ .vmem, ⟨6, _⟩ => ⟨S512x768, .bf16⟩
  | .local _ .vmem, ⟨7, _⟩ => ⟨S512x768, .bf16⟩
  | .local _ .vmem, ⟨8, _⟩ => ⟨S512x768, .f32⟩
  | _, _ => ⟨S8192x12416, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x12416 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S12416x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S388x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x12416 : Shape := ⟨2, ![8192, 12416]⟩
abbrev S12416x6912 : Shape := ⟨2, ![12416, 6912]⟩
abbrev S388x6912 : Shape := ⟨2, ![388, 6912]⟩
abbrev S8192x6912 : Shape := ⟨2, ![8192, 6912]⟩
abbrev S8192x388x32 : Shape := ⟨3, ![8192, 388, 32]⟩
abbrev S388x32x6912 : Shape := ⟨3, ![388, 32, 6912]⟩
abbrev S388x8192x6912 : Shape := ⟨3, ![388, 8192, 6912]⟩
abbrev S388x1x6912 : Shape := ⟨3, ![388, 1, 6912]⟩

abbrev nBuf : Space → Nat
  | .hbm => 4
  | .vmem => 4
  | .smem => 0
  | _ => 0

abbrev bufTy : (tb : Table) → Fin (tcTables nBuf tb) → BufTy
  | .hbm, ⟨0, _⟩ => ⟨S8192x12416, .bf16⟩
  | .hbm, ⟨1, _⟩ => ⟨S12416x6912, .fp8e4m3⟩
  | .hbm, ⟨2, _⟩ => ⟨S388x6912, .i8⟩
  | .hbm, ⟨3, _⟩ => ⟨S8192x6912, .bf16⟩
  | .local _ .vmem, ⟨0, _⟩ => ⟨S8192x12416, .bf16⟩
  | .local _ .vmem, ⟨1, _⟩ => ⟨S12416x6912, .fp8e4m3⟩
  | .local _ .vmem, ⟨2, _⟩ => ⟨S388x6912, .i8⟩
  | .local _ .vmem, ⟨3, _⟩ => ⟨S8192x6912, .bf16⟩
  | _, _ => ⟨S8192x12416, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x12416 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12416x6912 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S388x6912 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Scale.lean ====
/- The block scale. The kernel writes a scale's byte into the exponent field of a float32; the reference
   takes two to the power of the byte less 127. For a byte that is neither 0 nor 255 both are the same
   positive real, and such a factor may be taken into a sum of extended reals. -/
module

public import Idealize.ShloMosaic.Lib.Pointwise

@[expose] public section

noncomputable section

namespace Cert.Scale

open Idealize.ShloMosaic

/-- The float32 whose exponent field is the byte `s` and whose other bits are zero: the kernel's scale. -/
abbrev bits (s : BitVec 8) : EReal := Ideal.ofBits .f32 (IntOp.shli .vector (BitVec.setWidth 32 s) 23#32)

/-- Two to the power of the byte less 127: the reference's scale. -/
def pow (s : BitVec 8) : EReal :=
  Ideal.exp2 ((((BitVec.setWidth 32 s).toInt : ℝ) : EReal) - Ideal.ofBits .f32 1123942400#32)

/-- The float32 pattern `0x42FE0000` denotes 127. -/
theorem ofBits_127 : Ideal.ofBits .f32 1123942400#32 = ((127 : ℝ) : EReal) := by
  simp [Ideal.ofBits, Ideal.ieee, -EReal.coe_mul]; norm_num

/-- The reference's scale as a real power of two. -/
theorem pow_eq (s : BitVec 8) : pow s = (((2 : ℝ) ^ ((s.toNat : ℤ) - 127) : ℝ) : EReal) := by
  have hi : (BitVec.setWidth 32 s).toInt = (s.toNat : ℤ) := by
    have := s.isLt
    rw [BitVec.toInt_eq_toNat_of_lt (by rw [BitVec.toNat_setWidth]; omega), BitVec.toNat_setWidth]
    omega
  rw [pow, ofBits_127, hi, ← EReal.coe_sub, Ideal.exp2_coe, ← Real.rpow_intCast]
  push_cast
  rfl

/-- A float32 pattern with sign 0, fraction 0 and exponent field `e`, neither 0 nor 255, denotes `2 ^ (e - 127)`. -/
theorem ieee_pow (b : BitVec 32) (e : ℕ) (h₁ : 1 ≤ e) (h₂ : e ≤ 254) (hs : b.extractLsb' (8 + 23) 1 = 0#1)
    (he : (b.extractLsb' 23 8).toNat = e) (hf : (b.extractLsb' 0 23).toNat = 0) :
    Ideal.ieee 8 23 b = (((2 : ℝ) ^ ((e : ℤ) - 127) : ℝ) : EReal) := by
  unfold Ideal.ieee
  simp only [hs, he, hf]
  rw [if_neg (by omega), if_neg (by omega)]
  refine congrArg _ ?_
  have h : ((e : ℤ) - (2 ^ (8 - 1) - 1) - (23 : ℕ)) = ((e : ℤ) - 127) - 23 := by norm_num
  rw [h, zpow_sub₀ (by norm_num : (2 : ℝ) ≠ 0)]
  norm_num
  ring

/-- The shifted byte as a number. -/
theorem toNat_shl (s : BitVec 8) : (IntOp.shli .vector (BitVec.setWidth 32 s) 23#32).toNat = s.toNat * 2 ^ 23 := by
  have := s.isLt
  have h : (BitVec.setWidth 32 s).toNat = s.toNat := by rw [BitVec.toNat_setWidth]; omega
  rw [IntOp.shli, if_pos (by decide)]
  show (BitVec.setWidth 32 s <<< 23).toNat = _
  rw [BitVec.toNat_shiftLeft, h, Nat.shiftLeft_eq]
  omega

/-- The kernel's scale as a real power of two, at a byte that is neither 0 nor 255. -/
theorem bits_eq (s : BitVec 8) (h₁ : 1 ≤ s.toNat) (h₂ : s.toNat ≤ 254) :
    bits s = (((2 : ℝ) ^ ((s.toNat : ℤ) - 127) : ℝ) : EReal) := by
  refine ieee_pow _ s.toNat h₁ h₂ (BitVec.eq_of_toNat_eq ?_) ?_ ?_
  · rw [BitVec.extractLsb'_toNat, toNat_shl, Nat.shiftRight_eq_div_pow]
    show _ = 0
    omega
  · rw [BitVec.extractLsb'_toNat, toNat_shl, Nat.shiftRight_eq_div_pow]; omega
  · rw [BitVec.extractLsb'_toNat, toNat_shl, Nat.shiftRight_eq_div_pow]; omega

/-- So the two scales agree there. -/
theorem bits_eq_pow (s : BitVec 8) (h₁ : 1 ≤ s.toNat) (h₂ : s.toNat ≤ 254) : bits s = pow s :=
  (bits_eq s h₁ h₂).trans (pow_eq s).symm

/-- A positive real factor may be taken into a sum of extended reals. -/
theorem sum_mul_coe {ι : Type*} (S : Finset ι) (f : ι → EReal) (a : ℝ) (ha : 0 ≤ a) :
    (∑ k ∈ S, f k) * (a : EReal) = ∑ k ∈ S, f k * (a : EReal) := by
  classical
  induction S using Finset.induction_on with
  | empty => simp
  | insert k S hk ih =>
    rw [Finset.sum_insert hk, Finset.sum_insert hk,
      EReal.right_distrib_of_nonneg_of_ne_top (EReal.coe_nonneg.2 ha) (EReal.coe_ne_top a), ih]

/-- So may the reference's scale. -/
theorem sum_mul_pow {ι : Type*} (S : Finset ι) (f : ι → EReal) (s : BitVec 8) :
    (∑ k ∈ S, f k) * pow s = ∑ k ∈ S, f k * pow s := by
  rw [pow_eq]
  exact sum_mul_coe S f _ (by positivity)

end Cert.Scale
-- ==== Proof.BlockValue.lean ====
/- What one grid point of the matmul kernel computes: the block of the result it writes, read at an
   index, is one sum over the whole contracted axis. -/
module

public import proofs.«01_k».proof.Defs
public import proofs.«01_k».proof.Proof.Gen.KernelIdeal.Value
public import proofs.«01_k».proof.Proof.Scale
public import Idealize.ShloMosaic.Lib.Pipeline.ValueKit
public import Idealize.ShloMosaic.Lib.Pipeline.ReadBack
public import Idealize.ShloMosaic.Lib.Pointwise

@[expose] public section

noncomputable section

namespace Cert.KernelIdeal.Block

open Cert.KernelIdeal Cert.KernelIdeal.Gen Idealize.ShloMosaic Idealize.ShloMosaic.TcCoe Idealize.SL.Sem

variable (x : Vec Ideal S512x12416 .bf16) (w : Vec Ideal S12416x768 .fp8e4m3) (s : Vec Ideal S388x768 .i8)
variable (r : Fin 512) (l : Fin 768)

/-- The `n`-th product of the contraction at row `r` and column `l` of the block, zero past its end. -/
def term (n : ℕ) : EReal :=
  if h : n < 12416 then x (ix2 r ⟨n, h⟩) * (w (ix2 ⟨n, h⟩ l) * Scale.bits (s (ix2 ⟨n / 32, by omega⟩ l))) else 0

/-- The products of one chunk, `n` of them from row `a = 32 b` of the weights on, are terms `a …`
    of the contraction. -/
theorem chunk (n a b : ℕ) (hab : a = 32 * b) (h₁ : ∀ k : Fin n, a + k.val < 12416)
    (h₂ : ∀ k : Fin n, b + k.val / 32 < 388) :
    ∑ k : Fin n, x (ix2 r ⟨a + k.val, h₁ k⟩) * (w (ix2 ⟨a + k.val, h₁ k⟩ l) * Scale.bits (s (ix2 ⟨b + k.val / 32, h₂ k⟩ l)))
      = ∑ k ∈ Finset.range n, term x w s r l (a + k) := by
  rw [Finset.sum_range]
  refine Finset.sum_congr rfl fun k _ => ?_
  have e : (⟨b + k.val / 32, h₂ k⟩ : Fin 388) = ⟨(a + k.val) / 32, by have := h₁ k; omega⟩ := Fin.ext (by dsimp only; omega)
  rw [term, dif_pos (h₁ k), e]

/-- The same for the first chunk, whose offsets are zero. -/
theorem chunk_zero (n : ℕ) (h₁ : ∀ k : Fin n, k.val < 12416) (h₂ : ∀ k : Fin n, k.val / 32 < 388) :
    ∑ k : Fin n, x (ix2 r ⟨k.val, h₁ k⟩) * (w (ix2 ⟨k.val, h₁ k⟩ l) * Scale.bits (s (ix2 ⟨k.val / 32, h₂ k⟩ l)))
      = ∑ k ∈ Finset.range n, term x w s r l k := by
  rw [Finset.sum_range]
  exact Finset.sum_congr rfl fun k _ => by rw [term, dif_pos (h₁ k)]

/-- Twelve chunks of 1024 and one of 128 are the whole of 12416. -/
theorem sum_chunks (f : ℕ → EReal) :
    ∑ n ∈ Finset.range 12416, f n
      = (∑ k ∈ Finset.range 1024, f k) + (∑ k ∈ Finset.range 1024, f (1024 + k)) + (∑ k ∈ Finset.range 1024, f (2048 + k))
        + (∑ k ∈ Finset.range 1024, f (3072 + k)) + (∑ k ∈ Finset.range 1024, f (4096 + k)) + (∑ k ∈ Finset.range 1024, f (5120 + k))
        + (∑ k ∈ Finset.range 1024, f (6144 + k)) + (∑ k ∈ Finset.range 1024, f (7168 + k)) + (∑ k ∈ Finset.range 1024, f (8192 + k))
        + (∑ k ∈ Finset.range 1024, f (9216 + k)) + (∑ k ∈ Finset.range 1024, f (10240 + k)) + (∑ k ∈ Finset.range 1024, f (11264 + k))
        + (∑ k ∈ Finset.range 128, f (12288 + k)) := by
  rw [Finset.sum_range_add f 12288 128, Finset.sum_range_add f 11264 1024, Finset.sum_range_add f 10240 1024, Finset.sum_range_add f 9216 1024,
    Finset.sum_range_add f 8192 1024, Finset.sum_range_add f 7168 1024, Finset.sum_range_add f 6144 1024, Finset.sum_range_add f 5120 1024,
    Finset.sum_range_add f 4096 1024, Finset.sum_range_add f 3072 1024, Finset.sum_range_add f 2048 1024, Finset.sum_range_add f 1024 1024]

variable (m : (ℓ : Loc nD τ sig) → Buf (Elt Ideal) ℓ)

/-- What the body leaves in the result's block at grid point `t`, at row `r` and column `l`: the sum
    of all 12416 products of the point's blocks. -/
theorem outsAt0_apply (c : Dev nD) (t : Fin cfg0.N) :
    outsAt0 (F := Ideal) m c t (ix2 r l)
      = ∑ n ∈ Finset.range 12416, term (iblk m c 0 t) (iblk m c 1 t) (iblk m c 2 t) r l n := by
  unfold outsAt0
  frame_open
  simp (disch := decide) only [↓ View.readCov_skip, ↓ View.readCov_cons_toLoadRect, ↓ View.readCov_fill]
  frame_out
  generalize (iblk m c 0 t : Vec Ideal S512x12416 .bf16) = x
  generalize (iblk m c 1 t : Vec Ideal S12416x768 .fp8e4m3) = w
  generalize (iblk m c 2 t : Vec Ideal S388x768 .i8) = s
  unfold_payloads
  pointwise
  rw [chunk_zero x w s r l 1024, chunk x w s r l 1024 1024 32 rfl, chunk x w s r l 1024 2048 64 rfl,
    chunk x w s r l 1024 3072 96 rfl, chunk x w s r l 1024 4096 128 rfl, chunk x w s r l 1024 5120 160 rfl,
    chunk x w s r l 1024 6144 192 rfl, chunk x w s r l 1024 7168 224 rfl, chunk x w s r l 1024 8192 256 rfl,
    chunk x w s r l 1024 9216 288 rfl, chunk x w s r l 1024 10240 320 rfl, chunk x w s r l 1024 11264 352 rfl,
    chunk x w s r l 128 12288 384 rfl, sum_chunks]

end Cert.KernelIdeal.Block
-- ==== Proof.ArrayValue.lean ====
/- What the matmul kernel's result array holds: at every row and column, one sum over the whole
   contracted axis of the argument arrays. -/
module

public import proofs.«01_k».proof.Proof.BlockValue

@[expose] public section

noncomputable section

namespace Cert.KernelIdeal.Array

open Cert.KernelIdeal Cert.KernelIdeal.Gen Idealize.ShloMosaic Idealize.ShloMosaic.TcCoe Idealize.SL.Sem

section
variable (x : Vec Ideal S8192x12416 .bf16) (w : Vec Ideal S12416x6912 .fp8e4m3) (s : Vec Ideal S388x6912 .i8)

/-- The `n`-th product of the contraction at row `i` and column `j` of the result, zero past its end. -/
def term (i : Fin 8192) (j : Fin 6912) (n : ℕ) : EReal :=
  if h : n < 12416 then x (ix2 i ⟨n, h⟩) * (w (ix2 ⟨n, h⟩ j) * Scale.bits (s (ix2 ⟨n / 32, by omega⟩ j))) else 0

/-- The array of the sums of all 12416 products. -/
def result : Vec Ideal S8192x6912 .bf16 := fun y => ∑ n ∈ Finset.range 12416, term x w s (y 0) (y 1) n

end

variable (m : (ℓ : Loc nD τ sig) → Buf (Elt Ideal) ℓ)

/-- Every window's block index at grid point `t` (decided over the 144 points): the rows of the activations and of
    the result move with the first grid axis, the columns of the weights, scales and result with the second. -/
theorem idx : ∀ t : Fin cfg0.N,
    win0_0.index t = ![(grid0.coords t 0).val, 0] ∧ win0_1.index t = ![0, (grid0.coords t 1).val]
      ∧ win0_2.index t = ![0, (grid0.coords t 1).val] ∧ win0_3.index t = ![(grid0.coords t 0).val, (grid0.coords t 1).val] :=
  (by decide +kernel : ∀ t : Fin grid0.N, _)

/-- THE RESULT ARRAY after the run is `result` of the argument arrays. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e₀, e₁, e₂, e₃⟩ := idx t
  blk_simp
  rw [after0_3]
  idx_vars y
  rw [Block.outsAt0_apply]
  unfold result
  refine Finset.sum_congr (M := EReal) rfl fun n hn => ?_
  have hn' : n < 12416 := Finset.mem_range.mp hn
  refine (dif_pos hn').trans (Eq.trans ?_ (dif_pos hn').symm)
  refine congr (congrArg (HMul.hMul (α := EReal) (β := EReal)) ?_) (congr (congrArg (HMul.hMul (α := EReal) (β := EReal)) ?_) (congrArg Scale.bits ?_))
  · blk_ext [iblk, V, e₀, e₃]
  · blk_ext [iblk, V, e₁, e₃]
  · blk_ext [iblk, V, e₂, e₃]

end Cert.KernelIdeal.Array
-- ==== Proof.RefValue.lean ====
/- What the reference computes: its result, read at an index, is one sum over the whole contracted axis. -/
module

public import proofs.«01_k».proof.Defs
public import proofs.«01_k».proof.Proof.Gen.ReferenceIdeal.Value
public import proofs.«01_k».proof.Proof.Scale
public import Idealize.ShloMosaic.Lib.Pipeline.ValueKit
public import Idealize.ShloMosaic.Lib.Pointwise

@[expose] public section

noncomputable section

namespace Cert.ReferenceIdeal.RefValue

open Cert.ReferenceIdeal Cert.ReferenceIdeal.Gen Idealize.ShloMosaic Idealize.ShloMosaic.TcCoe Idealize.SL.Sem

variable (x : Vec Ideal S8192x12416 .bf16) (w : Vec Ideal S12416x6912 .fp8e4m3) (s : Vec Ideal S388x6912 .i8)
variable (i : Fin 8192) (j : Fin 6912)

/-- The `n`-th product of the contraction at row `i` and column `j` of the result, zero past its end. -/
def term (n : ℕ) : EReal :=
  if h : n < 12416 then x (ix2 i ⟨n, h⟩) * (w (ix2 ⟨n, h⟩ j) * Scale.pow (s (ix2 ⟨n / 32, by omega⟩ j))) else 0

/-- The reference's result at row `i` and column `j`: the blocks' partial products, each times its
    scale, are the sum of all 12416 products with the scale taken inside. -/
theorem G3_apply : Value.G3 (F := Ideal) x w s (ix2 i j) = ∑ n ∈ Finset.range 12416, term x w s i j n := by
  have h : Value.G3 (F := Ideal) x w s (ix2 i j)
      = ∑ b : Fin 388, (∑ k : Fin 32, x (ix2 i ⟨b.val * 32 + k.val, by omega⟩) * w (ix2 ⟨b.val * 32 + k.val, by omega⟩ j))
          * Scale.pow (s (ix2 b j)) := by
    unfold Value.G3
    unfold_payloads
    pointwise
    rfl
  rw [h, ← Fin.sum_univ_eq_sum_range, ← Fin.sum_univ_univ_mul_add 388 32]
  refine Finset.sum_congr rfl fun b _ => ?_
  rw [Scale.sum_mul_pow]
  refine Finset.sum_congr rfl fun k _ => ?_
  have e : b = (⟨(b.val * 32 + k.val) / 32, by omega⟩ : Fin 388) := Fin.ext (by dsimp only; omega)
  rw [term, dif_pos (by omega), ← e]
  exact mul_assoc (G := EReal) _ _ _

end Cert.ReferenceIdeal.RefValue
-- ==== Proof.Equation.lean ====
/- The matmul kernel and its reference at the ideal instance: from the precondition on the weight scales
   their results are equal. -/
module

public import proofs.«01_k».proof.Proof.ArrayValue
public import proofs.«01_k».proof.Proof.RefValue
public import proofs.«01_k».proof.Proof.Gen.Pre_scales_finite
public import Idealize.ShloMosaic.Lib.ReduceAll
public import Idealize.ShloMosaic.Lib.Claim
public import Idealize.ShloMosaic.Lib.Tactic.WordOmega

@[expose] public section

noncomputable section

namespace Cert.Equation

open Idealize.ShloMosaic Idealize.ShloMosaic.TcCoe Idealize.SL.Sem

instance : Subsingleton Cert.Pre_scales_finite.S_.Idx := ⟨fun _ _ => funext fun a => a.elim0⟩

/-- The precondition, read: every scale's byte is at least 1 and at most 254. -/
theorem scale_bounds (x : FVec Ideal Cert.Pre_scales_finite.S8192x12416 .bf16) (w : FVec Ideal Cert.Pre_scales_finite.S12416x6912 .fp8e4m3)
    (s : IVec Cert.Pre_scales_finite.S388x6912 8) (h : Cert.Pre_scales_finite.fn (F := Ideal) x w s = fun _ => 1#1) (b : Fin 388) (j : Fin 6912) :
    1 ≤ (s (ix2 b j)).toNat ∧ (s (ix2 b j)).toNat ≤ 254 := by
  have h₀ := congrFun h ix0
  unfold Cert.Pre_scales_finite.fn at h₀
  have h₁ := Host.reduce_andi_all _ _ _ _ _ h₀ (ix2 b j)
  pointwise at h₁
  generalize s (ix2 b j) = v at h₁ ⊢
  have hv := v.isLt
  clear h₀ h
  word_omega

/-- Under the precondition the array the kernel leaves is the reference's result. -/
theorem result_eq (x : Vec Ideal Cert.KernelIdeal.S8192x12416 .bf16) (w : Vec Ideal Cert.KernelIdeal.S12416x6912 .fp8e4m3)
    (s : Vec Ideal Cert.KernelIdeal.S388x6912 .i8) (h : Cert.Pre_scales_finite.fn (F := Ideal) x w s = fun _ => 1#1) :
    Cert.KernelIdeal.Array.result x w s = Cert.ReferenceIdeal.Value.G3 (F := Ideal) x w s := by
  funext y
  idx_vars y
  rw [Cert.ReferenceIdeal.RefValue.G3_apply]
  refine Finset.sum_congr (M := EReal) rfl fun n hn => ?_
  have hn' : n < 12416 := Finset.mem_range.mp hn
  refine (dif_pos hn').trans (Eq.trans ?_ (dif_pos hn').symm)
  obtain ⟨h₁, h₂⟩ := scale_bounds x w s h ⟨n / 32, by omega⟩ y1
  exact congrArg (fun e : EReal => x (ix2 y0 ⟨n, hn'⟩) * (w (ix2 ⟨n, hn'⟩ y1) * e)) (Scale.bits_eq_pow _ h₁ h₂)

set_option maxRecDepth 16384 in
/-- THE CLAIM: from memories agreeing on the arguments, whose scales satisfy the precondition, both programs
    run and leave equal results. -/
theorem algebraic : Cert.algebraic_KernelIdeal_ReferenceIdeal_pre_scales_finite := by
  pair_intro
  · run_from Cert.KernelIdeal.Value.run_blocks m g
  · run_from Cert.ReferenceIdeal.Value.run m' g'
    rw [Cert.KernelIdeal.Array.final m c]
    exact (result_eq _ _ _ (hpre c)).symm

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_scales_finite
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_scales_finite.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, Cert.Equation.algebraic⟩

end Cert.Proof

end
